-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonnegative [hPre_scales_nonnegative : Cert.Pre_scales_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonnegative [hPre_scales_nonnegative : Cert.Pre_scales_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_nonnegative [hKernelIdeal : Cert.KernelIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_nonnegative [hReferenceIdeal : Cert.ReferenceIdeal.Facts] [hPre_scales_nonnegative : Cert.Pre_scales_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scales_nonnegative [hKernelIdeal : Cert.KernelIdeal.Facts] [hReferenceIdeal : Cert.ReferenceIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_nonnegative : Cert.Pre_scales_nonnegative.Facts),
    quiescent_Kernel (hKernel := hKernel)
    ∧ quiescent_KernelIdeal (hKernelIdeal := hKernelIdeal)
    ∧ quiescent_KernelIdeal_pre_scales_nonnegative (hKernelIdeal := hKernelIdeal) (hPre_scales_nonnegative := hPre_scales_nonnegative)
    ∧ quiescent_ReferenceIdeal (hReferenceIdeal := hReferenceIdeal)
    ∧ quiescent_ReferenceIdeal_pre_scales_nonnegative (hReferenceIdeal := hReferenceIdeal) (hPre_scales_nonnegative := hPre_scales_nonnegative)
    ∧ preserves_Kernel_KernelIdeal
    ∧ algebraic_KernelIdeal_ReferenceIdeal_pre_scales_nonnegative (hKernelIdeal := hKernelIdeal) (hReferenceIdeal := hReferenceIdeal) (hPre_scales_nonnegative := hPre_scales_nonnegative)
-- ==== Pre_scales_nonnegative.lean ====
abbrev S4x1x8192 : Shape := ⟨3, ![4, 1, 8192]⟩
abbrev S4x1x16x64 : Shape := ⟨4, ![4, 1, 16, 64]⟩
abbrev S4x65536x512 : Shape := ⟨3, ![4, 65536, 512]⟩
abbrev S4x65536 : Shape := ⟨2, ![4, 65536]⟩
abbrev S4x65536x64 : Shape := ⟨3, ![4, 65536, 64]⟩
abbrev S_ : Shape := ⟨0, ![]⟩

class Facts : Prop where
  bcast_S_S4x65536 : S_.BroadcastsInDim S4x65536 (![] : Fin 0 → Fin S4x65536.rank)

variable [Facts]

def fn {F : FTy → Type} [FloatOps F] (main_arg0 : FVec F S4x1x8192 .bf16) (main_arg1 : FVec F S4x1x16x64 .bf16) (main_arg2 : FVec F S4x65536x512 .fp8e4m3) (main_arg3 : FVec F S4x65536 .f32) (main_arg4 : FVec F S4x65536x64 .bf16) : IVec S4x65536 1 :=
  let main_cst : FVec F S_ .f32 := constant S_ .f32 0x00000000#32
  let main_v0 : FVec F S4x65536 .f32 := broadcastInDim S4x65536 ![] bcast_S_S4x65536 main_cst
  let main_v1 : IVec S4x65536 1 := cmpf .oge main_arg3 main_v0
  let main_cst_0 : FVec F S_ .f32 := constant S_ .f32 0x7F800000#32
  let main_v2 : FVec F S4x65536 .f32 := broadcastInDim S4x65536 ![] bcast_S_S4x65536 main_cst_0
  let main_v3 : IVec S4x65536 1 := cmpf .olt main_arg3 main_v2
  let main_v4 : IVec S4x65536 1 := andi main_v1 main_v3
  main_v4
-- ==== Kernel.lean ====
abbrev S4x1x8192 : Shape := ⟨3, ![4, 1, 8192]⟩
abbrev S4x1x16x64 : Shape := ⟨4, ![4, 1, 16, 64]⟩
abbrev S4x65536x512 : Shape := ⟨3, ![4, 65536, 512]⟩
abbrev S4x65536 : Shape := ⟨2, ![4, 65536]⟩
abbrev S4x65536x64 : Shape := ⟨3, ![4, 65536, 64]⟩
abbrev S4x16x512 : Shape := ⟨3, ![4, 16, 512]⟩
abbrev S4x16x64 : Shape := ⟨3, ![4, 16, 64]⟩
abbrev S4x64x65536 : Shape := ⟨3, ![4, 64, 65536]⟩
abbrev S1x16x512 : Shape := ⟨3, ![1, 16, 512]⟩
abbrev S1x16x64 : Shape := ⟨3, ![1, 16, 64]⟩
abbrev S1x8192x512 : Shape := ⟨3, ![1, 8192, 512]⟩
abbrev S1x64x8192 : Shape := ⟨3, ![1, 64, 8192]⟩
abbrev S16x128 : Shape := ⟨2, ![16, 128]⟩
abbrev S16x512 : Shape := ⟨2, ![16, 512]⟩
abbrev S16x64 : Shape := ⟨2, ![16, 64]⟩
abbrev S1x2048x512 : Shape := ⟨3, ![1, 2048, 512]⟩
abbrev S2048x512 : Shape := ⟨2, ![2048, 512]⟩
abbrev S16x2048 : Shape := ⟨2, ![16, 2048]⟩
abbrev S1x64x2048 : Shape := ⟨3, ![1, 64, 2048]⟩
abbrev S64x2048 : Shape := ⟨2, ![64, 2048]⟩
abbrev S1x2048 : Shape := ⟨2, ![1, 2048]⟩
abbrev S16 : Shape := ⟨1, ![16]⟩
abbrev S16x1 : Shape := ⟨2, ![16, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x1x8192, .bf16⟩
  | .hbm, ⟨1, _⟩ => ⟨S4x1x16x64, .bf16⟩
  | .hbm, ⟨2, _⟩ => ⟨S4x65536x512, .fp8e4m3⟩
  | .hbm, ⟨3, _⟩ => ⟨S4x65536, .f32⟩
  | .hbm, ⟨4, _⟩ => ⟨S4x65536x64, .bf16⟩
  | .hbm, ⟨5, _⟩ => ⟨S4x16x512, .bf16⟩
  | .hbm, ⟨6, _⟩ => ⟨S4x16x64, .bf16⟩
  | .hbm, ⟨7, _⟩ => ⟨S4x64x65536, .bf16⟩
  | .hbm, ⟨8, _⟩ => ⟨S4x16x512, .bf16⟩
  | .local _ .vmem, ⟨0, _⟩ => ⟨S1x16x512, .bf16⟩
  | .local _ .vmem, ⟨1, _⟩ => ⟨S1x16x512, .bf16⟩
  | .local _ .vmem, ⟨2, _⟩ => ⟨S1x16x64, .bf16⟩
  | .local _ .vmem, ⟨3, _⟩ => ⟨S1x16x64, .bf16⟩
  | .local _ .vmem, ⟨4, _⟩ => ⟨S1x8192x512, .fp8e4m3⟩
  | .local _ .vmem, ⟨5, _⟩ => ⟨S1x8192x512, .fp8e4m3⟩
  | .local _ .vmem, ⟨6, _⟩ => ⟨S4x65536, .f32⟩
  | .local _ .vmem, ⟨7, _⟩ => ⟨S1x64x8192, .bf16⟩
  | .local _ .vmem, ⟨8, _⟩ => ⟨S1x64x8192, .bf16⟩
  | .local _ .vmem, ⟨9, _⟩ => ⟨S1x16x512, .bf16⟩
  | .local _ .vmem, ⟨10, _⟩ => ⟨S1x16x512, .bf16⟩
  | .local _ .vmem, ⟨11, _⟩ => ⟨S16x128, .f32⟩
  | .local _ .vmem, ⟨12, _⟩ => ⟨S16x128, .f32⟩
  | .local _ .vmem, ⟨13, _⟩ => ⟨S16x512, .f32⟩
  | _, _ => ⟨S4x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c8192_i32 : BitVec 32 := 8192#32
  let v16 : BitVec 32 := Scalar.muli arg1 c8192_i32
  let c0_i32_19 : BitVec 32 := 0#32
  let v17 : BitVec 32 := Scalar.addi v16 c0_i32_19
  v17
def k0_off1 (i : grid0.Coords) (c0_i32_19 : BitVec 32) : Fin 2 → Nat :=
  let arg0 : BitVec 32 := BitVec.ofNat 32 (i 0).val
  let v19 : Index := Scalar.indexCast arg0
  let arg1 : BitVec 32 := BitVec.ofNat 32 (i 1).val
  let c8192_i32 : BitVec 32 := 8192#32
  let v16 : BitVec 32 := Scalar.muli arg1 c8192_i32
  let v17 : BitVec 32 := Scalar.addi v16 c0_i32_19
  let v18 : BitVec 32 := v17
  let v20 : Index := Scalar.indexCast v18
  ![v19.toNat, v20.toNat]
def k0_mult2 (i : grid0.Coords) : BitVec 32 :=
  let arg1 : BitVec 32 := BitVec.ofNat 32 (i 1).val
  let c8192_i32_28 : BitVec 32 := 8192#32
  let v35 : BitVec 32 := Scalar.muli arg1 c8192_i32_28
  let c2048_i32 : BitVec 32 := 2048#32
  let v36 : BitVec 32 := Scalar.addi v35 c2048_i32
  v36
def k0_mult3 (i : grid0.Coords) : BitVec 32 :=
  let arg1 : BitVec 32 := BitVec.ofNat 32 (i 1).val
  let c8192_i32_32 : BitVec 32 := 8192#32
  let v94 : BitVec 32 := Scalar.muli arg1 c8192_i32_32
  let c0_i32_33 : BitVec 32 := 0#32
  let v95 : BitVec 32 := Scalar.addi v94 c0_i32_33
  v95
def k0_mult4 (i : grid0.Coords) : BitVec 32 :=
  let arg1 : BitVec 32 := BitVec.ofNat 32 (i 1).val
  let c8192_i32_45 : BitVec 32 := 8192#32
  let v116 : BitVec 32 := Scalar.muli arg1 c8192_i32_45
  let c4096_i32 : BitVec 32 := 4096#32
  let v117 : BitVec 32 := Scalar.addi v116 c4096_i32
  v117
def k0_mult5 (i : grid0.Coords) : BitVec 32 :=
  let arg1 : BitVec 32 := BitVec.ofNat 32 (i 1).val
  let c8192_i32_49 : BitVec 32 := 8192#32
  let v175 : BitVec 32 := Scalar.muli arg1 c8192_i32_49
  let c2048_i32_50 : BitVec 32 := 2048#32
  let v176 : BitVec 32 := Scalar.addi v175 c2048_i32_50
  v176
def k0_mult6 (i : grid0.Coords) : BitVec 32 :=
  let arg1 : BitVec 32 := BitVec.ofNat 32 (i 1).val
  let c8192_i32_62 : BitVec 32 := 8192#32
  let v197 : BitVec 32 := Scalar.muli arg1 c8192_i32_62
  let c6144_i32 : BitVec 32 := 6144#32
  let v198 : BitVec 32 := Scalar.addi v197 c6144_i32
  v198
def k0_mult7 (i : grid0.Coords) : BitVec 32 :=
  let arg1 : BitVec 32 := BitVec.ofNat 32 (i 1).val
  let c8192_i32_66 : BitVec 32 := 8192#32
  let v256 : BitVec 32 := Scalar.muli arg1 c8192_i32_66
  let c4096_i32_67 : BitVec 32 := 4096#32
  let v257 : BitVec 32 := Scalar.addi v256 c4096_i32_67
  v257
def k0_mult8 (i : grid0.Coords) : BitVec 32 :=
  let arg1 : BitVec 32 := BitVec.ofNat 32 (i 1).val
  let c8192_i32_74 : BitVec 32 := 8192#32
  let v318 : BitVec 32 := Scalar.muli arg1 c8192_i32_74
  let c6144_i32_75 : BitVec 32 := 6144#32
  let v319 : BitVec 32 := Scalar.addi v318 c6144_i32_75
  v319
def k0_cond2 (i : grid0.Coords) : BitVec 1 :=
  let arg1 : BitVec 32 := BitVec.ofNat 32 (i 1).val
  let c7_i32 : BitVec 32 := 7#32
  let v343 : BitVec 1 := Scalar.cmpi .eq arg1 c7_i32
  let v344 : BitVec 32 := Scalar.extui v343
  let c0_i32_86 : BitVec 32 := 0#32
  let v345 : BitVec 1 := Scalar.cmpi .ne v344 c0_i32_86
  v345

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x1x8192 : Shape := ⟨3, ![4, 1, 8192]⟩
abbrev S4x1x16x64 : Shape := ⟨4, ![4, 1, 16, 64]⟩
abbrev S4x65536x512 : Shape := ⟨3, ![4, 65536, 512]⟩
abbrev S4x65536 : Shape := ⟨2, ![4, 65536]⟩
abbrev S4x65536x64 : Shape := ⟨3, ![4, 65536, 64]⟩
abbrev S4x16x512 : Shape := ⟨3, ![4, 16, 512]⟩
abbrev S4x16x64 : Shape := ⟨3, ![4, 16, 64]⟩
abbrev S1x65536x512 : Shape := ⟨3, ![1, 65536, 512]⟩
abbrev S65536x512 : Shape := ⟨2, ![65536, 512]⟩
abbrev S1x65536 : Shape := ⟨2, ![1, 65536]⟩
abbrev S65536 : Shape := ⟨1, ![65536]⟩
abbrev S65536x1 : Shape := ⟨2, ![65536, 1]⟩
abbrev S1x16x512 : Shape := ⟨3, ![1, 16, 512]⟩
abbrev S16x512 : Shape := ⟨2, ![16, 512]⟩
abbrev S16x65536 : Shape := ⟨2, ![16, 65536]⟩
abbrev S1x16x64 : Shape := ⟨3, ![1, 16, 64]⟩
abbrev S16x64 : Shape := ⟨2, ![16, 64]⟩
abbrev S1x65536x64 : Shape := ⟨3, ![1, 65536, 64]⟩
abbrev S65536x64 : Shape := ⟨2, ![65536, 64]⟩
abbrev S16 : Shape := ⟨1, ![16]⟩
abbrev S16x1 : Shape := ⟨2, ![16, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x1x8192, .bf16⟩
  | .hbm, ⟨1, _⟩ => ⟨S4x1x16x64, .bf16⟩
  | .hbm, ⟨2, _⟩ => ⟨S4x65536x512, .fp8e4m3⟩
  | .hbm, ⟨3, _⟩ => ⟨S4x65536, .f32⟩
  | .hbm, ⟨4, _⟩ => ⟨S4x65536x64, .bf16⟩
  | .hbm, ⟨5, _⟩ => ⟨S4x16x512, .bf16⟩
  | .hbm, ⟨6, _⟩ => ⟨S4x16x64, .bf16⟩
  | .hbm, ⟨7, _⟩ => ⟨S4x16x512, .bf16⟩
  | .local _ .vmem, ⟨0, _⟩ => ⟨S4x16x512, .bf16⟩
  | .local _ .vmem, ⟨1, _⟩ => ⟨S4x16x64, .bf16⟩
  | .local _ .vmem, ⟨2, _⟩ => ⟨S4x65536x512, .fp8e4m3⟩
  | .local _ .vmem, ⟨3, _⟩ => ⟨S4x65536, .f32⟩
  | .local _ .vmem, ⟨4, _⟩ => ⟨S4x65536x64, .bf16⟩
  | .local _ .vmem, ⟨5, _⟩ => ⟨S4x16x512, .bf16⟩
  | _, _ => ⟨S4x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x16x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x65536x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x65536x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Softmax.lean ====
/- Online softmax over the extended reals. A row of scores `s 0, s 1, …` is read block after block, keeping the running
   maximum and sums of `exp (s t - maximum) * w t`; after any number of tokens these are the maximum and the sums taken in
   one pass. Nothing is assumed of the scores or of the weights `w`: each may be infinite. -/
module

public import Idealize.ShloMosaic.PureOps.Ideal
public import Mathlib.Algebra.BigOperators.Fin
public import Mathlib.Data.EReal.Operations

@[expose] public section

noncomputable section

namespace Cert.Softmax

open Idealize.ShloMosaic

/-- The pattern of `-inf` denotes `⊥`. -/
theorem ofBits_neg_inf : Ideal.ofBits .f32 0xFF800000#32 = (⊥ : EReal) := by
  simp [Ideal.ofBits, Ideal.ieee]

/-- `exp` is never negative. -/
theorem exp_nonneg (x : EReal) : 0 ≤ Ideal.exp x := by
  induction x with
  | bot => simp
  | top => simp
  | coe r => rw [Ideal.exp_coe]; exact_mod_cast (Real.exp_pos r).le

/-- `exp` is infinite at `⊤` alone. -/
theorem exp_ne_top {x : EReal} (h : x ≠ ⊤) : Ideal.exp x ≠ ⊤ := by
  induction x with
  | bot => simp
  | top => exact absurd rfl h
  | coe r => rw [Ideal.exp_coe]; exact EReal.coe_ne_top _

/-- The difference of a number and one at least as large is not `⊤`. -/
theorem sub_ne_top {m m' : EReal} (h : m ≤ m') : m - m' ≠ ⊤ := by
  induction m with
  | bot => simp
  | top => rw [top_le_iff.mp h]; simp
  | coe r =>
    induction m' with
    | bot => simp at h
    | top => simp
    | coe r' => rw [← EReal.coe_sub]; exact EReal.coe_ne_top _

/-- Rescaling from one maximum to a later one. -/
theorem exp_sub_mul_exp_sub {s m m' : EReal} (h : s ≤ m) (h' : m ≤ m') :
    Ideal.exp (s - m) * Ideal.exp (m - m') = Ideal.exp (s - m') := by
  induction s with
  | bot => simp
  | top => rw [top_le_iff.mp h] at h' ⊢; rw [top_le_iff.mp h']; simp
  | coe s =>
    induction m with
    | bot => simp at h
    | top => rw [top_le_iff.mp h']; simp
    | coe m =>
      induction m' with
      | bot => simp at h'
      | top => simp
      | coe m' =>
        rw [← EReal.coe_sub, ← EReal.coe_sub, ← EReal.coe_sub, Ideal.exp_coe, Ideal.exp_coe, Ideal.exp_coe,
          ← EReal.coe_mul, ← Real.exp_add, sub_add_sub_cancel]

/-- A factor in `[0, ⊤)` goes into a sum. -/
theorem sum_mul {ι : Type*} (A : Finset ι) (f : ι → EReal) {c : EReal} (h0 : 0 ≤ c) (h1 : c ≠ ⊤) :
    (∑ i ∈ A, f i) * c = ∑ i ∈ A, f i * c := by
  classical
  induction A using Finset.induction_on with
  | empty => simp
  | insert a A ha ih => rw [Finset.sum_insert ha, Finset.sum_insert ha, EReal.right_distrib_of_nonneg_of_ne_top h0 h1, ih]

/-- The maximum of the first `n` scores, `⊥` of none. -/
def mx (s : ℕ → EReal) (n : ℕ) : EReal := (Finset.range n).sup s

/-- The sum over the first `n` tokens of `exp (s t - maximum) * w t`. -/
def sm (s w : ℕ → EReal) (n : ℕ) : EReal := ∑ t ∈ Finset.range n, Ideal.exp (s t - mx s n) * w t

/-- The maximum of no score. -/
theorem mx_zero (s : ℕ → EReal) : mx s 0 = ⊥ := rfl

/-- The sum over no token. -/
theorem sm_zero (s w : ℕ → EReal) : sm s w 0 = 0 := rfl

/-- The maximum of more scores is at least as large. -/
theorem mx_mono (s : ℕ → EReal) {n n' : ℕ} (h : n ≤ n') : mx s n ≤ mx s n' :=
  Finset.sup_mono (Finset.range_mono h)

/-- The fold that a maximum over an axis is, as a supremum. -/
theorem fold_max_eq_sup {ι : Type*} (A : Finset ι) (f : ι → EReal) : A.fold max ⊥ f = A.sup f := rfl

/-- The maximum of `n + k` scores from that of `n` and that of the next `k`. -/
theorem mx_add (s : ℕ → EReal) (n k : ℕ) :
    mx s (n + k) = max (mx s n) (Finset.univ.fold max ⊥ fun i : Fin k => s (n + i)) := by
  rw [fold_max_eq_sup]
  apply le_antisymm
  · refine Finset.sup_le fun t ht => ?_
    by_cases h : t < n
    · exact le_max_of_le_left (Finset.le_sup (f := s) (Finset.mem_range.mpr h))
    · have hk : t - n < k := by have := Finset.mem_range.mp ht; omega
      refine le_max_of_le_right (le_trans (le_of_eq ?_)
        (Finset.le_sup (f := fun i : Fin k => s (n + i)) (Finset.mem_univ (⟨t - n, hk⟩ : Fin k))))
      show s t = s (n + (t - n)); congr 1; omega
  · refine max_le (mx_mono s (Nat.le_add_right n k)) (Finset.sup_le fun i _ => ?_)
    exact Finset.le_sup (f := s) (Finset.mem_range.mpr (by have := i.isLt; omega))

/-- The sums of `n + k` tokens from those of `n`, rescaled to the new maximum, and of the next `k`. -/
theorem sm_add (s w : ℕ → EReal) (n k : ℕ) :
    sm s w (n + k) = sm s w n * Ideal.exp (mx s n - mx s (n + k))
      + ∑ i : Fin k, Ideal.exp (s (n + i) - mx s (n + k)) * w (n + i) := by
  have hm := mx_mono s (Nat.le_add_right n k)
  unfold sm
  rw [Finset.sum_range_add, sum_mul _ _ (exp_nonneg _) (exp_ne_top (sub_ne_top hm)),
    Fin.sum_univ_eq_sum_range (fun i => Ideal.exp (s (n + i) - mx s (n + k)) * w (n + i))]
  congr 1
  refine Finset.sum_congr rfl fun t ht => ?_
  have hs : s t ≤ mx s n := Finset.le_sup (f := s) ht
  rw [mul_right_comm, exp_sub_mul_exp_sub hs hm]

/-- A sum over the tokens, split by the lane `t % 128` each falls in, is the sum over the tokens. -/
theorem sum_lanes (s : ℕ → EReal) (n : ℕ) :
    ∑ l : Fin 128, sm s (fun t => if t % 128 = l then 1 else 0) n = sm s (fun _ => 1) n := by
  unfold sm
  rw [Finset.sum_comm]
  refine Finset.sum_congr rfl fun t _ => ?_
  rw [Finset.sum_eq_single (⟨t % 128, Nat.mod_lt _ (by norm_num)⟩ : Fin 128)]
  · simp
  · intro l _ hl
    show _ * (if t % 128 = (l : ℕ) then (1 : EReal) else 0) = 0
    rw [if_neg fun h => hl (Fin.ext h.symm), mul_zero]
  · exact fun h => absurd (Finset.mem_univ _) h

/-- The tokens of a block of `2048` that fall in lane `l` are `l`, `128 + l`, …: the block starts at a multiple of `128`. -/
theorem sum_lane_block (f : ℕ → EReal) (n : ℕ) (hn : n % 128 = 0) (l : Fin 128) :
    ∑ i : Fin 2048, f i * (if (n + i) % 128 = l then 1 else 0) = ∑ j : Fin 16, f (128 * j + l) := by
  have hl := l.isLt
  rw [← (finProdFinEquiv (m := 16) (n := 128)).sum_comp, Fintype.sum_prod_type]
  refine Finset.sum_congr rfl fun j _ => ?_
  rw [Finset.sum_eq_single l]
  · have : ((finProdFinEquiv (j, l) : Fin (16 * 128)) : ℕ) = l + 128 * j := rfl
    rw [this, if_pos (by omega), mul_one, add_comm]
  · intro l' _ hne
    have : ((finProdFinEquiv (j, l') : Fin (16 * 128)) : ℕ) = l' + 128 * j := rfl
    have h' := l'.isLt
    rw [this, if_neg (fun h => hne (Fin.ext (by omega))), mul_zero]
  · exact fun h => absurd (Finset.mem_univ _) h

end Cert.Softmax

end
-- ==== Proof.Step.lean ====
/- One sub-block of the kernel at an index. A grid point of the kernel reads four sub-blocks of 2048 tokens, and its stored
   values are the same vector expressions four times over. Here they are named once (`nextM`, `nextL`, `nextAcc`), read at an
   index, and shown to carry the online softmax of `Softmax` from `n` tokens to `n + 2048`. -/
module

public import proofs.«01_k».proof.Proof.Gen.KernelIdeal.Skeleton
public import Idealize.ShloMosaic.Lib.Pointwise
public import proofs.«01_k».proof.Proof.Softmax

@[expose] public section

set_option maxRecDepth 16384

noncomputable section

namespace Cert.KernelIdeal.Step

open Idealize.ShloMosaic Idealize.ShloMosaic.TcCoe Idealize.SL.Sem
open Cert.KernelIdeal Cert.KernelIdeal.Gen Cert.Softmax

/-- The running maximum after a sub-block with scores `s`, of every lane. -/
def nextM (s : FVec Ideal S16x2048 .f32) (m : FVec Ideal S16x128 .f32) : FVec Ideal S16x128 .f32 := k0_pay25 s m

/-- The running sums of the 128 lanes after a sub-block with scores `s`. -/
def nextL (s : FVec Ideal S16x2048 .f32) (m l : FVec Ideal S16x128 .f32) : FVec Ideal S16x128 .f32 := k0_pay28 s m l

/-- The running weighted sum of the latent rows after a sub-block with scores `s`, scales `z` and codes `c`. -/
def nextAcc (s : FVec Ideal S16x2048 .f32) (m : FVec Ideal S16x128 .f32) (acc : FVec Ideal S16x512 .f32) (z : Vec Ideal S1x2048 .f32)
    (c : Vec Ideal S1x2048x512 .fp8e4m3) : FVec Ideal S16x512 .f32 :=
  k0_pay30 acc (k0_pay27 s m) (k0_pay29 s m) z c

/-- A score: the query against the codes, times the token's scale, plus the rotary part, times the softmax's factor. -/
theorem score_at (q : FVec Ideal S16x512 .bf16) (qr : FVec Ideal S16x64 .bf16) (c : Vec Ideal S1x2048x512 .fp8e4m3)
    (r : Vec Ideal S1x64x2048 .bf16) (z : Vec Ideal S1x2048 .f32) (h : Fin 16) (t : Fin 2048) :
    k0_pay12 q qr c r z (ix2 h t)
      = ((∑ x : Fin 512, q (ix2 h x) * c (ix3 0 t x)) * z (ix2 0 t) + ∑ x : Fin 64, qr (ix2 h x) * r (ix3 0 x t))
          * Ideal.ofBits .f32 0x3D93CD3A#32 := by
  pointwise [k0_pay12]

/-- The new maximum of a head: the larger of the old one and the sub-block's scores. -/
theorem nextM_at (s : FVec Ideal S16x2048 .f32) (m : FVec Ideal S16x128 .f32) (h : Fin 16) (l : Fin 128) :
    nextM s m (ix2 h l) = max (m (ix2 h l)) (Finset.univ.fold max ⊥ fun x => s (ix2 h x)) := by
  pointwise [nextM, k0_pay25]
  rw [ofBits_neg_inf]

/-- The weight of token `t` of the sub-block under the new maximum. -/
theorem prob_at (s : FVec Ideal S16x2048 .f32) (m : FVec Ideal S16x128 .f32) (h : Fin 16) (t : Fin 2048) :
    k0_pay26 s m (ix2 h t) = Ideal.exp (s (ix2 h t) - nextM s m (ix2 h 0)) := by
  pointwise [k0_pay26, nextM]

/-- The new sum of a lane: the old one rescaled, plus the weights of the sub-block's tokens in that lane. -/
theorem nextL_at (s : FVec Ideal S16x2048 .f32) (m l : FVec Ideal S16x128 .f32) (h : Fin 16) (i : Fin 128) :
    nextL s m l (ix2 h i) = l (ix2 h i) * Ideal.exp (m (ix2 h i) - nextM s m (ix2 h i))
      + ∑ j : Fin 16, k0_pay26 s m (ix2 h ⟨128 * j + i, by have := j.isLt; have := i.isLt; omega⟩) := by
  pointwise [nextL, nextM, k0_pay28, k0_pay27]
  simp only [Fin.sum_univ_succ, Fin.sum_univ_zero, Fin.val_succ, Fin.val_zero, Nat.mul_zero, Nat.zero_add, Nat.reduceAdd, Nat.reduceMul,
    add_zero, add_assoc]

/-- The new weighted sum: the old one rescaled, plus the sub-block's rows by their weights and scales. -/
theorem nextAcc_at (s : FVec Ideal S16x2048 .f32) (m : FVec Ideal S16x128 .f32) (acc : FVec Ideal S16x512 .f32)
    (z : Vec Ideal S1x2048 .f32) (c : Vec Ideal S1x2048x512 .fp8e4m3) (h : Fin 16) (k : Fin 512) :
    nextAcc s m acc z c (ix2 h k) = acc (ix2 h k) * Ideal.exp (m (ix2 h 0) - nextM s m (ix2 h 0))
      + ∑ x : Fin 2048, k0_pay26 s m (ix2 h x) * z (ix2 0 x) * c (ix3 0 x k) := by
  pointwise [nextAcc, nextM, k0_pay30, k0_pay27, k0_pay29]

/-- The output block from the last sums: the weighted sum over the sum of all lanes. -/
theorem out_at (acc : FVec Ideal S16x512 .f32) (a : FVec Ideal S16x128 .f32) (l : FVec Ideal S16x128 .f32)
    (p : FVec Ideal S16x2048 .bf16) (c : Vec Ideal S1x2048x512 .fp8e4m3) (u : Fin 1) (h : Fin 16) (k : Fin 512) :
    k0_pay5 acc a l p c (ix3 u h k) = Ideal.div (k0_pay4 acc a p c (ix2 h k)) (∑ x : Fin 128, l (ix2 h x)) := by
  pointwise [k0_pay5, k0_pay4]

/-- The weight that puts token `t` in lane `i`. -/
def lane (i : ℕ) : ℕ → EReal := fun t => if t % 128 = i then 1 else 0

/-- The three carried arrays hold the online softmax of the first `n` tokens: `S h t` is the score of token `t` for head
    `h`, `W k t` the entry `k` of its latent row. -/
structure Holds (S : Fin 16 → ℕ → EReal) (W : Fin 512 → ℕ → EReal) (n : ℕ) (m l : FVec Ideal S16x128 .f32)
    (acc : FVec Ideal S16x512 .f32) : Prop where
  /-- Every lane holds the maximum. -/
  max_eq : ∀ (h : Fin 16) (i : Fin 128), m (ix2 h i) = mx (S h) n
  /-- Lane `i` holds the sum over its tokens. -/
  lane_eq : ∀ (h : Fin 16) (i : Fin 128), l (ix2 h i) = sm (S h) (lane i) n
  /-- The weighted sum of the latent rows. -/
  acc_eq : ∀ (h : Fin 16) (k : Fin 512), acc (ix2 h k) = sm (S h) (W k) n

/-- What the kernel starts a batch element from is the online softmax of no token. -/
theorem holds_zero (S : Fin 16 → ℕ → EReal) (W : Fin 512 → ℕ → EReal) :
    Holds S W 0 (k0_pay6 (F := Ideal)) (k0_pay7 (F := Ideal)) (k0_pay8 (F := Ideal)) := by
  refine ⟨fun h i => ?_, fun h i => ?_, fun h k => ?_⟩
  · rw [mx_zero]; pointwise [k0_pay6]; exact ofBits_neg_inf
  · rw [sm_zero]; pointwise [k0_pay7]
  · rw [sm_zero]; pointwise [k0_pay8]

/-- One sub-block takes the online softmax from `n` tokens to `n + 2048`. -/
theorem holds_step {S : Fin 16 → ℕ → EReal} {W : Fin 512 → ℕ → EReal} {n : ℕ} (hn : n % 128 = 0) {m l : FVec Ideal S16x128 .f32}
    {acc : FVec Ideal S16x512 .f32} (H : Holds S W n m l acc) (s : FVec Ideal S16x2048 .f32) (z : Vec Ideal S1x2048 .f32)
    (c : Vec Ideal S1x2048x512 .fp8e4m3) (hs : ∀ (h : Fin 16) (t : Fin 2048), s (ix2 h t) = S h (n + t))
    (hw : ∀ (t : Fin 2048) (k : Fin 512), z (ix2 0 t) * c (ix3 0 t k) = W k (n + t)) :
    Holds S W (n + 2048) (nextM s m) (nextL s m l) (nextAcc s m acc z c) := by
  have hM : ∀ (h : Fin 16) (i : Fin 128), nextM s m (ix2 h i) = mx (S h) (n + 2048) := by
    intro h i
    rw [nextM_at, mx_add, H.max_eq]
    simp only [hs]
  refine ⟨hM, fun h i => ?_, fun h k => ?_⟩
  · rw [nextL_at, sm_add, H.lane_eq, H.max_eq, hM]
    congr 1
    refine Eq.trans ?_ (sum_lane_block (fun t => Ideal.exp (S h (n + t) - mx (S h) (n + 2048))) n hn i).symm
    refine Finset.sum_congr rfl fun j _ => ?_
    rw [prob_at, hs, hM]
  · rw [nextAcc_at, sm_add, H.acc_eq, H.max_eq, hM]
    congr 1
    refine Finset.sum_congr rfl fun t _ => ?_
    rw [prob_at, hs, hM, mul_assoc, hw]

end Cert.KernelIdeal.Step

end
-- ==== Proof.Attention.lean ====
/- The attention of one batch element, as a function of its arrays: the score of each token, the entries of its latent row,
   and the softmax average of the latent rows. Both programs' results are stated through `attend`. -/
module

public import Idealize.ShloMosaic.Lib.Pointwise
public import proofs.«01_k».proof.Proof.Softmax

@[expose] public section

noncomputable section

namespace Cert.Attention

open Idealize.ShloMosaic Cert.Softmax

/-- Token number `n`, the numbers taken round the cache so that every one names a token. -/
def tok (n : ℕ) : Fin 65536 := ⟨n % 65536, Nat.mod_lt _ (by norm_num)⟩

/-- A token's number, as a token. -/
theorem tok_val (t : Fin 65536) : tok t = t := Fin.ext (Nat.mod_eq_of_lt t.isLt)

/-- A number below 65536, as a token. -/
theorem tok_eq {n : ℕ} (h : n < 65536) : tok n = ⟨n, h⟩ := Fin.ext (Nat.mod_eq_of_lt h)

variable (X : Vec Ideal ⟨3, ![4, 16, 512]⟩ .bf16) (Q : Vec Ideal ⟨3, ![4, 16, 64]⟩ .bf16)
  (C : Vec Ideal ⟨3, ![4, 65536, 512]⟩ .fp8e4m3) (Z : Vec Ideal ⟨2, ![4, 65536]⟩ .f32)
  (R : Vec Ideal ⟨3, ![4, 65536, 64]⟩ .bf16)

/-- The score of token `n` for head `h` of batch element `b`, the token's scale taken out of the sum over its codes. -/
def score (b : Fin 4) (h : Fin 16) (n : ℕ) : EReal :=
  ((∑ x : Fin 512, X (ix3 b h x) * C (ix3 b (tok n) x)) * Z (ix2 b (tok n))
      + ∑ x : Fin 64, Q (ix3 b h x) * R (ix3 b (tok n) x)) * Ideal.ofBits .f32 0x3D93CD3A#32

/-- Entry `k` of the latent row of token `n`: its scale times its code. -/
def row (b : Fin 4) (k : Fin 512) (n : ℕ) : EReal := Z (ix2 b (tok n)) * C (ix3 b (tok n) k)

/-- The softmax average of the latent rows of a batch element's tokens. -/
def attend : Vec Ideal ⟨3, ![4, 16, 512]⟩ .bf16 := fun i =>
  Ideal.div (sm (score X Q C Z R (i 0) (i 1)) (row C Z (i 0) (i 2)) 65536) (sm (score X Q C Z R (i 0) (i 1)) (fun _ => 1) 65536)

/-- The score with the scale inside the sum, over the dequantized row: the same where the scale is in `[0, ⊤)`. -/
theorem score_eq (b : Fin 4) (h : Fin 16) (t : Fin 65536) (h0 : 0 ≤ Z (ix2 b t)) (h1 : Z (ix2 b t) ≠ ⊤) :
    ((∑ x : Fin 512, X (ix3 b h x) * (C (ix3 b t x) * Z (ix2 b t))) + ∑ x : Fin 64, Q (ix3 b h x) * R (ix3 b t x))
        * Ideal.ofBits .f32 0x3D93CD3A#32 = score X Q C Z R b h t := by
  unfold score
  rw [tok_val, sum_mul _ _ h0 h1]
  simp only [mul_assoc]

/-- A maximum over all the tokens, taken at once. -/
theorem mx_all (s : ℕ → EReal) : (Finset.univ.fold max ⊥ fun t : Fin 65536 => s t) = mx s 65536 := by
  have h := mx_add s 0 65536
  rw [mx_zero, max_eq_right bot_le] at h
  simpa only [Nat.zero_add] using h.symm

/-- A sum over all the tokens, taken at once. -/
theorem sm_all (s w : ℕ → EReal) : (∑ t : Fin 65536, Ideal.exp (s t - mx s 65536) * w t) = sm s w 65536 :=
  Fin.sum_univ_eq_sum_range (fun t => Ideal.exp (s t - mx s 65536) * w t) 65536

end Cert.Attention

end
-- ==== Proof.Point.lean ====
/- One grid point of the kernel: the four sub-blocks it reads, and what it makes of the carried arrays, as `Step`'s sub-block
   taken four times. -/
module

public import proofs.«01_k».proof.Proof.Step
public import proofs.«01_k».proof.Proof.Attention

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Step

/-- The codes of the sub-block that starts at row `o` of the block. -/
def codesB (x : Vec Ideal S1x8192x512 .fp8e4m3) (o : ℕ)
    (inb : ∀ a, (![0, o, 0] : Fin 3 → ℕ) a + S1x2048x512.size a ≤ S1x8192x512.size a) : Vec Ideal S1x2048x512 .fp8e4m3 :=
  View.ld x (Rect.unit (s := S1x8192x512) ![0, o, 0] S1x2048x512.size inb)

/-- The rotary keys of the sub-block that starts at column `o` of the block. -/
def ropeB (x : Vec Ideal S1x64x8192 .bf16) (o : ℕ)
    (inb : ∀ a, (![0, 0, o] : Fin 3 → ℕ) a + S1x64x2048.size a ≤ S1x64x8192.size a) : Vec Ideal S1x64x2048 .bf16 :=
  View.ld x (Rect.unit (s := S1x64x8192) ![0, 0, o] S1x64x2048.size inb)

/-- The scales of a sub-block, read out of the whole array of scales at `off`. -/
def scaleB (x : Vec Ideal S4x65536 .f32) (off : Fin 2 → ℕ) (inb : ∀ a, off a + S1x2048.size a ≤ S4x65536.size a) :
    Vec Ideal S1x2048 .f32 :=
  View.ld x (Rect.unit (s := S4x65536) off S1x2048.size inb)

/-- Row `t` of a sub-block's codes is row `o + t` of the block's. -/
theorem codesB_at (x : Vec Ideal S1x8192x512 .fp8e4m3) (o : ℕ) (inb) (t : Fin 2048) (k : Fin 512) (h : o + t < 8192) :
    codesB x o inb (ix3 0 t k) = x (ix3 0 ⟨o + t, h⟩ k) := by
  pointwise [codesB]

/-- Column `t` of a sub-block's rotary keys is column `o + t` of the block's. -/
theorem ropeB_at (x : Vec Ideal S1x64x8192 .bf16) (o : ℕ) (inb) (t : Fin 2048) (k : Fin 64) (h : o + t < 8192) :
    ropeB x o inb (ix3 0 k t) = x (ix3 0 k ⟨o + t, h⟩) := by
  pointwise [ropeB]

/-- Scale `t` of a sub-block is scale `o + t` of its batch element. -/
theorem scaleB_at (x : Vec Ideal S4x65536 .f32) (off : Fin 2 → ℕ) (inb) (b : Fin 4) (o : ℕ) (ho : off = ![b.val, o]) (t : Fin 2048)
    (h : o + t < 65536) : scaleB x off inb (ix2 0 t) = x (ix2 b ⟨o + t, h⟩) := by
  subst ho
  pointwise [scaleB]

variable (x0 : Vec Ideal S1x16x512 .bf16) (x1 : Vec Ideal S1x16x64 .bf16) (x2 : Vec Ideal S1x8192x512 .fp8e4m3)
  (x3 : Vec Ideal S4x65536 .f32) (x4 : Vec Ideal S1x64x8192 .bf16) (i : grid0.Coords)
  (m l : FVec Ideal S16x128 .f32) (acc : FVec Ideal S16x512 .f32)

/-- The codes of sub-block 0, and below of sub-blocks 1, 2 and 3. -/
def c0 := codesB x2 0 inb_S1x8192x512_S1x2048x512_0_0_0
def c1 := codesB x2 2048 inb_S1x8192x512_S1x2048x512_0_2048_0
def c2 := codesB x2 4096 inb_S1x8192x512_S1x2048x512_0_4096_0
def c3 := codesB x2 6144 inb_S1x8192x512_S1x2048x512_0_6144_0

/-- The scales of sub-block 0, and below of sub-blocks 1, 2 and 3. -/
def z0 := scaleB x3 (k0_off1 i 0#32) (k0_off1_inb i 0)
def z1 := scaleB x3 (k0_off1 i 2048#32) (k0_off1_inb i 1)
def z2 := scaleB x3 (k0_off1 i 4096#32) (k0_off1_inb i 2)
def z3 := scaleB x3 (k0_off1 i 6144#32) (k0_off1_inb i 3)

/-- The scores of sub-block 0, and below of sub-blocks 1, 2 and 3. -/
def s0 := k0_pay12 (k0_pay9 x0) (k0_pay10 x1) (c0 x2) (ropeB x4 0 inb_S1x64x8192_S1x64x2048_0_0_0) (z0 x3 i)
def s1 := k0_pay12 (k0_pay9 x0) (k0_pay10 x1) (c1 x2) (ropeB x4 2048 inb_S1x64x8192_S1x64x2048_0_0_2048) (z1 x3 i)
def s2 := k0_pay12 (k0_pay9 x0) (k0_pay10 x1) (c2 x2) (ropeB x4 4096 inb_S1x64x8192_S1x64x2048_0_0_4096) (z2 x3 i)
def s3 := k0_pay12 (k0_pay9 x0) (k0_pay10 x1) (c3 x2) (ropeB x4 6144 inb_S1x64x8192_S1x64x2048_0_0_6144) (z3 x3 i)

/-- The maximum after one sub-block, and below after two, three and four. -/
def m1 := nextM (s0 x0 x1 x2 x3 x4 i) m
def m2 := nextM (s1 x0 x1 x2 x3 x4 i) (m1 x0 x1 x2 x3 x4 i m)
def m3 := nextM (s2 x0 x1 x2 x3 x4 i) (m2 x0 x1 x2 x3 x4 i m)
def m4 := nextM (s3 x0 x1 x2 x3 x4 i) (m3 x0 x1 x2 x3 x4 i m)

/-- The lanes' sums after one sub-block, and below after two, three and four. -/
def l1 := nextL (s0 x0 x1 x2 x3 x4 i) m l
def l2 := nextL (s1 x0 x1 x2 x3 x4 i) (m1 x0 x1 x2 x3 x4 i m) (l1 x0 x1 x2 x3 x4 i m l)
def l3 := nextL (s2 x0 x1 x2 x3 x4 i) (m2 x0 x1 x2 x3 x4 i m) (l2 x0 x1 x2 x3 x4 i m l)
def l4 := nextL (s3 x0 x1 x2 x3 x4 i) (m3 x0 x1 x2 x3 x4 i m) (l3 x0 x1 x2 x3 x4 i m l)

/-- The weighted sum after one sub-block, and below after two, three and four. -/
def a1 := nextAcc (s0 x0 x1 x2 x3 x4 i) m acc (z0 x3 i) (c0 x2)
def a2 := nextAcc (s1 x0 x1 x2 x3 x4 i) (m1 x0 x1 x2 x3 x4 i m) (a1 x0 x1 x2 x3 x4 i m acc) (z1 x3 i) (c1 x2)
def a3 := nextAcc (s2 x0 x1 x2 x3 x4 i) (m2 x0 x1 x2 x3 x4 i m) (a2 x0 x1 x2 x3 x4 i m acc) (z2 x3 i) (c2 x2)
def a4 := nextAcc (s3 x0 x1 x2 x3 x4 i) (m3 x0 x1 x2 x3 x4 i m) (a3 x0 x1 x2 x3 x4 i m acc) (z3 x3 i) (c3 x2)

/-- The output block, from the sums after four sub-blocks. -/
def out : Vec Ideal S1x16x512 .bf16 := fun y =>
  Ideal.div (a4 x0 x1 x2 x3 x4 i m acc (ix2 (y 1) (y 2))) (∑ x : Fin 128, l4 x0 x1 x2 x3 x4 i m l (ix2 (y 1) x))

/-- Where sub-block 0's scales lie, and below those of sub-blocks 1, 2 and 3. -/
theorem off0 : k0_off1 i 0#32 = ![(i 0).val, 8192 * (i 1).val] := k0_off1_eq i 0
theorem off1 : k0_off1 i 2048#32 = ![(i 0).val, 8192 * (i 1).val + 2048] := k0_off1_eq i 1
theorem off2 : k0_off1 i 4096#32 = ![(i 0).val, 8192 * (i 1).val + 4096] := k0_off1_eq i 2
theorem off3 : k0_off1 i 6144#32 = ![(i 0).val, 8192 * (i 1).val + 6144] := k0_off1_eq i 3

open Cert.Attention

variable (X : Vec Ideal S4x16x512 .bf16) (Q : Vec Ideal S4x16x64 .bf16) (C : Vec Ideal S4x65536x512 .fp8e4m3)
  (Z : Vec Ideal S4x65536 .f32) (R : Vec Ideal S4x65536x64 .bf16)

/-- The blocks a grid point reads are those of batch element `b` and of the tokens from `n` on. -/
structure Blocks (b : Fin 4) (n : ℕ) : Prop where
  le : n + 8192 ≤ 65536
  x0_eq : ∀ (h : Fin 16) (k : Fin 512), x0 (ix3 0 h k) = X (ix3 b h k)
  x1_eq : ∀ (h : Fin 16) (k : Fin 64), x1 (ix3 0 h k) = Q (ix3 b h k)
  x2_eq : ∀ (t : Fin 8192) (k : Fin 512), x2 (ix3 0 t k) = C (ix3 b (tok (n + t)) k)
  x3_eq : ∀ t : Fin 65536, x3 (ix2 b t) = Z (ix2 b t)
  x4_eq : ∀ (k : Fin 64) (t : Fin 8192), x4 (ix3 0 k t) = R (ix3 b (tok (n + t)) k)

variable {x0 x1 x2 x3 x4 X Q C Z R}

/-- The sub-block that starts `o` tokens into the block, loaded as the kernel loads it, has the scores and the latent rows
    of the tokens from `n + o` on. -/
theorem sub_at {b : Fin 4} {n o : ℕ} (B : Blocks x0 x1 x2 x3 x4 X Q C Z R b n) (ho : o + 2048 ≤ 8192) (inb inb')
    (off : Fin 2 → ℕ) (inb'') (hoff : off = ![b.val, n + o]) :
    (∀ (h : Fin 16) (t : Fin 2048),
      k0_pay12 (k0_pay9 x0) (k0_pay10 x1) (codesB x2 o inb) (ropeB x4 o inb') (scaleB x3 off inb'') (ix2 h t)
        = score X Q C Z R b h (n + o + t))
    ∧ ∀ (t : Fin 2048) (k : Fin 512), scaleB x3 off inb'' (ix2 0 t) * codesB x2 o inb (ix3 0 t k) = row C Z b k (n + o + t) := by
  have hn := B.le
  have hc : ∀ (t : Fin 2048) (k : Fin 512), codesB x2 o inb (ix3 0 t k) = C (ix3 b (tok (n + o + t)) k) := by
    intro t k
    rw [codesB_at x2 o inb t k (by have := t.isLt; omega), B.x2_eq]
    simp only [Nat.add_assoc]
  have hr : ∀ (t : Fin 2048) (k : Fin 64), ropeB x4 o inb' (ix3 0 k t) = R (ix3 b (tok (n + o + t)) k) := by
    intro t k
    rw [ropeB_at x4 o inb' t k (by have := t.isLt; omega), B.x4_eq]
    simp only [Nat.add_assoc]
  have hz : ∀ t : Fin 2048, scaleB x3 off inb'' (ix2 0 t) = Z (ix2 b (tok (n + o + t))) := by
    intro t
    have ht : n + o + t < 65536 := by have := t.isLt; omega
    rw [scaleB_at x3 off inb'' b (n + o) hoff t ht, B.x3_eq, tok_eq ht]
  have hq : ∀ (h : Fin 16) (k : Fin 512), k0_pay9 x0 (ix2 h k) = X (ix3 b h k) := by
    intro h k
    rw [← B.x0_eq]
    pointwise [k0_pay9]
  have hqr : ∀ (h : Fin 16) (k : Fin 64), k0_pay10 x1 (ix2 h k) = Q (ix3 b h k) := by
    intro h k
    rw [← B.x1_eq]
    pointwise [k0_pay10]
  refine ⟨fun h t => ?_, fun t k => ?_⟩
  · rw [score_at]
    simp only [hc, hr, hz, hq, hqr]
    rfl
  · rw [hc, hz]
    rfl

/-- A grid point takes the online softmax of its batch element from the tokens before its block to those up to its end. -/
theorem holds_point {b : Fin 4} {n : ℕ} (B : Blocks x0 x1 x2 x3 x4 X Q C Z R b n) (hi : (i 0).val = b.val)
    (hn : 8192 * (i 1).val = n) {m l : FVec Ideal S16x128 .f32} {acc : FVec Ideal S16x512 .f32}
    (H : Holds (score X Q C Z R b) (row C Z b) n m l acc) :
    Holds (score X Q C Z R b) (row C Z b) (n + 8192) (m4 x0 x1 x2 x3 x4 i m) (l4 x0 x1 x2 x3 x4 i m l)
      (a4 x0 x1 x2 x3 x4 i m acc) := by
  have h0 := sub_at (o := 0) B (by omega) inb_S1x8192x512_S1x2048x512_0_0_0 inb_S1x64x8192_S1x64x2048_0_0_0 _ (k0_off1_inb i 0)
    ((off0 i).trans (by rw [hi, hn, Nat.add_zero]))
  have h1 := sub_at (o := 2048) B (by omega) inb_S1x8192x512_S1x2048x512_0_2048_0 inb_S1x64x8192_S1x64x2048_0_0_2048 _
    (k0_off1_inb i 1) ((off1 i).trans (by rw [hi, hn]))
  have h2 := sub_at (o := 4096) B (by omega) inb_S1x8192x512_S1x2048x512_0_4096_0 inb_S1x64x8192_S1x64x2048_0_0_4096 _
    (k0_off1_inb i 2) ((off2 i).trans (by rw [hi, hn]))
  have h3 := sub_at (o := 6144) B (by omega) inb_S1x8192x512_S1x2048x512_0_6144_0 inb_S1x64x8192_S1x64x2048_0_0_6144 _
    (k0_off1_inb i 3) ((off3 i).trans (by rw [hi, hn]))
  have H1 := holds_step (by omega) H (s0 x0 x1 x2 x3 x4 i) (z0 x3 i) (c0 x2) h0.1 h0.2
  have H2 := holds_step (by omega) H1 (s1 x0 x1 x2 x3 x4 i) (z1 x3 i) (c1 x2) h1.1 h1.2
  have H3 := holds_step (by omega) H2 (s2 x0 x1 x2 x3 x4 i) (z2 x3 i) (c2 x2) h2.1 h2.2
  exact holds_step (by omega) H3 (s3 x0 x1 x2 x3 x4 i) (z3 x3 i) (c3 x2) h3.1 h3.2

end Cert.KernelIdeal.Point

end
-- ==== Proof.Fold.lean ====
/- What the kernel's run leaves after each grid point, as `Point`'s terms over what the point before left. -/
module

public import proofs.«01_k».proof.Proof.Gen.KernelIdeal.Value
public import Idealize.ShloMosaic.Lib.Pipeline.ValueKit
public import Idealize.ShloMosaic.Lib.Pipeline.ReadBack
public import proofs.«01_k».proof.Proof.Point

@[expose] public section

set_option maxRecDepth 16384

noncomputable section

namespace Cert.KernelIdeal.Fold

open Idealize.ShloMosaic Idealize.ShloMosaic.TcCoe Idealize.SL.Sem
open Cert.KernelIdeal Cert.KernelIdeal.Gen Cert.KernelIdeal.Step Cert.KernelIdeal.Point
open Idealize.ShloMosaic.Pipeline (Dat)

variable (m : (ℓ : Loc nD τ sig) → Buf (Elt Ideal) ℓ) (c : Dev nD)

/-- Storing a carried array changes its shape to the same shape. -/
theorem pay2_eq (v : FVec Ideal S16x128 .f32) : k0_pay2 v = v := by
  funext j; idx_vars j; pointwise [k0_pay2]
theorem pay3_eq (v : FVec Ideal S16x128 .f32) : k0_pay3 v = v := by
  funext j; idx_vars j; pointwise [k0_pay3]
theorem pay4_eq (a : FVec Ideal S16x512 .f32) (f : FVec Ideal S16x128 .f32) (p : FVec Ideal S16x2048 .bf16)
    (x : Vec Ideal S1x2048x512 .fp8e4m3) : k0_pay4 a f p x = k0_pay1 a f p x := by
  funext j; idx_vars j; pointwise [k0_pay4]

/-- What the point before left, of the maximum, the lanes' sums and the weighted sum. -/
abbrev prev (t : Fin cfg0.N) := outsAt0 m c (t.val - 1) (Nat.lt_of_le_of_lt (Nat.sub_le _ _) t.isLt)

/-- At a point inside a run, the maximum is `Point`'s over the maximum before. -/
theorem m_B (t : Fin cfg0.N) (h0 : ¬t.val % 8 = 0) (h1 : ¬t.val % 8 = 7) :
    (outsAt0 m c t.val t.isLt).2.1 = m4 (iblk m c 0 t) (iblk m c 1 t) (iblk m c 2 t) (iblk m c 3 t) (iblk m c 4 t) (grid0.coords t)
      (prev m c t).2.1 := by
  rw [outsAt0_B m c t h0 h1]
  frame_out
  simp only [read_unread_whole]
  rw [pay2_eq]
  rfl

/-- At a point inside a run, the lanes' sums are `Point`'s over the arrays before. -/
theorem l_B (t : Fin cfg0.N) (h0 : ¬t.val % 8 = 0) (h1 : ¬t.val % 8 = 7) :
    (outsAt0 m c t.val t.isLt).2.2.1 = l4 (iblk m c 0 t) (iblk m c 1 t) (iblk m c 2 t) (iblk m c 3 t) (iblk m c 4 t) (grid0.coords t)
      (prev m c t).2.1 (prev m c t).2.2.1 := by
  rw [outsAt0_B m c t h0 h1]
  frame_out
  simp only [read_unread_whole]
  rw [pay3_eq]
  rfl

/-- At a point inside a run, the weighted sum is `Point`'s over the arrays before. -/
theorem a_B (t : Fin cfg0.N) (h0 : ¬t.val % 8 = 0) (h1 : ¬t.val % 8 = 7) :
    (outsAt0 m c t.val t.isLt).2.2.2 = a4 (iblk m c 0 t) (iblk m c 1 t) (iblk m c 2 t) (iblk m c 3 t) (iblk m c 4 t) (grid0.coords t)
      (prev m c t).2.1 (prev m c t).2.2.2 := by
  rw [outsAt0_B m c t h0 h1]
  frame_out
  simp only [read_unread_whole]
  rw [pay4_eq]
  rfl

/-- At the first point of a batch element, the maximum is `Point`'s over the initial maximum. -/
theorem m_A (t : Fin cfg0.N) (h0 : t.val % 8 = 0) (h1 : ¬t.val % 8 = 7) :
    (outsAt0 m c t.val t.isLt).2.1 = m4 (iblk m c 0 t) (iblk m c 1 t) (iblk m c 2 t) (iblk m c 3 t) (iblk m c 4 t) (grid0.coords t)
      (k0_pay6 (F := Ideal)) := by
  rw [outsAt0_A m c t h0 h1]
  frame_open
  simp (disch := decide) only [↓ View.readCov_skip, ↓ View.readCov_cons_toLoadRect, ↓ View.readCov_fill]
  frame_out
  rw [pay2_eq]
  rfl

/-- At the first point of a batch element, the lanes' sums are `Point`'s over the initial arrays. -/
theorem l_A (t : Fin cfg0.N) (h0 : t.val % 8 = 0) (h1 : ¬t.val % 8 = 7) :
    (outsAt0 m c t.val t.isLt).2.2.1 = l4 (iblk m c 0 t) (iblk m c 1 t) (iblk m c 2 t) (iblk m c 3 t) (iblk m c 4 t) (grid0.coords t)
      (k0_pay6 (F := Ideal)) (k0_pay7 (F := Ideal)) := by
  rw [outsAt0_A m c t h0 h1]
  frame_open
  simp (disch := decide) only [↓ View.readCov_skip, ↓ View.readCov_cons_toLoadRect, ↓ View.readCov_fill]
  frame_out
  rw [pay3_eq]
  rfl

/-- At the first point of a batch element, the weighted sum is `Point`'s over the initial arrays. -/
theorem a_A (t : Fin cfg0.N) (h0 : t.val % 8 = 0) (h1 : ¬t.val % 8 = 7) :
    (outsAt0 m c t.val t.isLt).2.2.2 = a4 (iblk m c 0 t) (iblk m c 1 t) (iblk m c 2 t) (iblk m c 3 t) (iblk m c 4 t) (grid0.coords t)
      (k0_pay6 (F := Ideal)) (k0_pay8 (F := Ideal)) := by
  rw [outsAt0_A m c t h0 h1]
  frame_open
  simp (disch := decide) only [↓ View.readCov_skip, ↓ View.readCov_cons_toLoadRect, ↓ View.readCov_fill]
  frame_out
  rw [pay4_eq]
  rfl

/-- At the last point of a batch element, the output block is `Point`'s over the arrays before. -/
theorem out_C (t : Fin cfg0.N) (h0 : ¬t.val % 8 = 0) (h1 : t.val % 8 = 7) :
    (outsAt0 m c t.val t.isLt).1 = out (iblk m c 0 t) (iblk m c 1 t) (iblk m c 2 t) (iblk m c 3 t) (iblk m c 4 t) (grid0.coords t)
      (prev m c t).2.1 (prev m c t).2.2.1 (prev m c t).2.2.2 := by
  rw [outsAt0_C m c t h0 h1]
  frame_out
  simp only [read_unread_whole]
  funext y
  idx_vars y
  rw [out_at, pay4_eq]
  rfl

end Cert.KernelIdeal.Fold

end
-- ==== Proof.Kernel.lean ====
/- The kernel's result: the softmax average of `Attention`, of the arrays its run begins with. -/
module

public import proofs.«01_k».proof.Proof.Fold

@[expose] public section

set_option maxRecDepth 16384

noncomputable section

namespace Cert.KernelIdeal.Result

open Idealize.ShloMosaic Idealize.ShloMosaic.TcCoe Idealize.SL.Sem
open Cert.KernelIdeal Cert.KernelIdeal.Gen Cert.KernelIdeal.Step Cert.KernelIdeal.Point Cert.KernelIdeal.Fold
open Cert.Attention Cert.Softmax
open Idealize.ShloMosaic.Pipeline (Dat)

variable (m : (ℓ : Loc nD τ sig) → Buf (Elt Ideal) ℓ) (c : Dev nD)

/-- The queries, by head. -/
def X : Vec Ideal S4x16x512 .bf16 := shapeCast S4x16x512 (m ((c : Thread nD τ).loc main_arg0)) shapeCasts_S4x1x8192_S4x16x512
/-- The rotary part of the queries, by head. -/
def Q : Vec Ideal S4x16x64 .bf16 := shapeCast S4x16x64 (m ((c : Thread nD τ).loc main_arg1)) shapeCasts_S4x1x16x64_S4x16x64
/-- The codes of the latent cache. -/
def C : Vec Ideal S4x65536x512 .fp8e4m3 := m ((c : Thread nD τ).loc main_arg2)
/-- The scales of the latent cache. -/
def Z : Vec Ideal S4x65536 .f32 := m ((c : Thread nD τ).loc main_arg3)
/-- The rotary keys. -/
def R : Vec Ideal S4x65536x64 .bf16 := m ((c : Thread nD τ).loc main_arg4)

/-- The index maps at point `t`: batch element `t / 8`, block `t % 8` of its tokens. -/
theorem idx : ∀ t : Fin cfg0.N, win0_0.index t = ![t.val / 8, 0, 0] ∧ win0_1.index t = ![t.val / 8, 0, 0]
    ∧ win0_2.index t = ![t.val / 8, t.val % 8, 0] ∧ win0_3.index t = ![0, 0] ∧ win0_4.index t = ![t.val / 8, 0, t.val % 8]
    ∧ win0_5.index t = ![t.val / 8, 0, 0] ∧ (grid0.coords t 0).val = t.val / 8 ∧ (grid0.coords t 1).val = t.val % 8 :=
  (by decide +kernel : ∀ t : Fin grid0.N, _)

/-- The batch element of point `t`. -/
def bat (t : Fin cfg0.N) : Fin 4 := ⟨t.val / 8, by have h : t.val < 32 := t.isLt; omega⟩

/-- The blocks that point `t` reads. -/
theorem blocks (t : Fin cfg0.N) : Blocks (iblk m c 0 t) (iblk m c 1 t) (iblk m c 2 t) (iblk m c 3 t) (iblk m c 4 t)
    (X m c) (Q m c) (C m c) (Z m c) (R m c) (bat t) (8192 * (t.val % 8)) := by
  have ht : t.val < 32 := t.isLt
  refine ⟨by omega, fun h k => ?_, fun h k => ?_, fun s k => ?_, fun s => ?_, fun k s => ?_⟩
  · have hv : V m c main_v0 = X m c := by entry_read; rfl
    rw [← hv]
    blk_ext [iblk, bat, idx t]
  · have hv : V m c main_v1 = Q m c := by entry_read; rfl
    rw [← hv]
    blk_ext [iblk, bat, idx t]
  · rw [tok_eq (by have := s.isLt; omega)]
    have hv : V m c main_arg2 = C m c := by entry_read; rfl
    rw [← hv]
    blk_ext [iblk, bat, idx t]
  · have hv : V m c main_arg3 = Z m c := by entry_read; rfl
    rw [← hv]
    blk_ext [iblk, bat, idx t]
  · rw [tok_eq (by have := s.isLt; omega)]
    have hv : V m c main_v2 = transpose S4x64x65536 [0, 2, 1] (R m c) transposes_S4x65536x64_S4x64x65536_0_2_1 := by
      entry_read; rfl
    have he : R m c (ix3 (bat t) ⟨8192 * (t.val % 8) + s.val, by have := s.isLt; omega⟩ k)
        = V m c main_v2 (ix3 (bat t) k ⟨8192 * (t.val % 8) + s.val, by have := s.isLt; omega⟩) := by
      rw [hv]; pointwise
    rw [he]
    blk_ext [iblk, bat, idx t]

/-- After point `t` the carried arrays hold the online softmax of its batch element's tokens up to the end of its block. -/
theorem holds_after (n : ℕ) (hn : n < cfg0.N) (h7 : ¬n % 8 = 7) :
    Holds (score (X m c) (Q m c) (C m c) (Z m c) (R m c) (bat ⟨n, hn⟩)) (row (C m c) (Z m c) (bat ⟨n, hn⟩)) (8192 * (n % 8) + 8192)
      (outsAt0 m c n hn).2.1 (outsAt0 m c n hn).2.2.1 (outsAt0 m c n hn).2.2.2 := by
  have hc := idx ⟨n, hn⟩
  induction n with
  | zero =>
    have h0 : (⟨0, hn⟩ : Fin cfg0.N).val % 8 = 0 := rfl
    rw [m_A m c ⟨0, hn⟩ h0 h7, l_A m c ⟨0, hn⟩ h0 h7, a_A m c ⟨0, hn⟩ h0 h7]
    refine holds_point _ (blocks m c ⟨0, hn⟩) hc.2.2.2.2.2.2.1 (by rw [hc.2.2.2.2.2.2.2]) (holds_zero _ _)
  | succ n ih =>
    by_cases h0 : (n + 1) % 8 = 0
    · rw [m_A m c ⟨n + 1, hn⟩ h0 h7, l_A m c ⟨n + 1, hn⟩ h0 h7, a_A m c ⟨n + 1, hn⟩ h0 h7]
      refine holds_point _ (blocks m c ⟨n + 1, hn⟩) hc.2.2.2.2.2.2.1 (by rw [hc.2.2.2.2.2.2.2]) ?_
      rw [show 8192 * ((⟨n + 1, hn⟩ : Fin cfg0.N).val % 8) = 0 from by simp only [h0]]
      exact holds_zero _ _
    · rw [m_B m c ⟨n + 1, hn⟩ h0 h7, l_B m c ⟨n + 1, hn⟩ h0 h7, a_B m c ⟨n + 1, hn⟩ h0 h7]
      refine holds_point _ (blocks m c ⟨n + 1, hn⟩) hc.2.2.2.2.2.2.1 (by rw [hc.2.2.2.2.2.2.2]) ?_
      have hp := ih (by omega) (by omega) (idx _)
      have hb : bat ⟨n, by omega⟩ = bat ⟨n + 1, hn⟩ := Fin.ext (by show n / 8 = (n + 1) / 8; omega)
      have he : 8192 * (n % 8) + 8192 = 8192 * ((⟨n + 1, hn⟩ : Fin cfg0.N).val % 8) := by
        show 8192 * (n % 8) + 8192 = 8192 * ((n + 1) % 8); omega
      rw [hb, he] at hp
      exact hp

/-- The block that the last point of a batch element leaves: the softmax average over all its tokens. -/
theorem out_last (t : Fin cfg0.N) (h7 : t.val % 8 = 7) (u : Fin 1) (h : Fin 16) (k : Fin 512) :
    (outsAt0 m c t.val t.isLt).1 (ix3 u h k) = attend (X m c) (Q m c) (C m c) (Z m c) (R m c) (ix3 (bat t) h k) := by
  have ht : t.val < 32 := t.isLt
  have hc := idx t
  have h0 : ¬t.val % 8 = 0 := by omega
  have hp := holds_after m c (t.val - 1) (Nat.lt_of_le_of_lt (Nat.sub_le _ _) t.isLt) (by omega)
  have hb : bat ⟨t.val - 1, Nat.lt_of_le_of_lt (Nat.sub_le _ _) t.isLt⟩ = bat t :=
    Fin.ext (by show (t.val - 1) / 8 = t.val / 8; omega)
  have he : 8192 * ((t.val - 1) % 8) + 8192 = 8192 * (t.val % 8) := by omega
  rw [hb, he] at hp
  have H := holds_point _ (blocks m c t) hc.2.2.2.2.2.2.1 (by rw [hc.2.2.2.2.2.2.2]) hp
  rw [show 8192 * (t.val % 8) + 8192 = 65536 by omega] at H
  rw [out_C m c t h0 h7]
  show Ideal.div _ (∑ x : Fin 128, _) = Ideal.div _ _
  refine congrArg₂ Ideal.div (H.acc_eq h k) (Eq.trans ?_ (sum_lanes _ _))
  exact Finset.sum_congr rfl fun x _ => H.lane_eq h x

/-- The kernel's result array after its run. -/
theorem result : (dats m 0 c).arrAt 5 cfg0.N = attend (X m c) (Q m c) (C m c) (Z m c) (R m c) := by
  refine (dats m 0 c).arrAt_eq_of_covers 5 _ (by decide +kernel) fun t hf y => ?_
  have h7 : t.val % 8 = 7 := (by decide +kernel : ∀ t : Fin grid0.N, (cfg0.win 5).flush t = true → t.val % 8 = 7) t hf
  idx_vars y
  blk_simp
  rw [after0_5, out_last m c t h7]
  refine congrArg _ ?_
  blk_ext [bat, idx t]

end Cert.KernelIdeal.Result

end
-- ==== Proof.Reference.lean ====
/- The reference's result: the softmax average of `Attention`, of the arrays its run begins with, where every scale is a
   finite number and not negative. -/
module

public import proofs.«01_k».proof.Proof.Gen.ReferenceIdeal.Value
public import Idealize.ShloMosaic.Lib.Pipeline.ValueKit
public import Idealize.ShloMosaic.Lib.Pointwise
public import proofs.«01_k».proof.Proof.Attention

@[expose] public section

set_option maxRecDepth 16384

noncomputable section

namespace Cert.ReferenceIdeal.Result

open Idealize.ShloMosaic Idealize.ShloMosaic.TcCoe Idealize.SL.Sem
open Cert.ReferenceIdeal Cert.ReferenceIdeal.Gen
open Cert.Attention Cert.Softmax
open Idealize.ShloMosaic.Pipeline (Dat)

section Blocks

variable (X : Vec Ideal S4x16x512 .bf16) (Q : Vec Ideal S4x16x64 .bf16) (C : Vec Ideal S4x65536x512 .fp8e4m3)
  (Z : Vec Ideal S4x65536 .f32) (R : Vec Ideal S4x65536x64 .bf16)

/-- One batch element's block, at an index: the softmax average. -/
theorem pay_at (hz : ∀ i, 0 ≤ Z i ∧ Z i ≠ ⊤) (b : Fin 4) (x0 : Vec Ideal S1x16x512 .bf16) (x1 : Vec Ideal S1x16x64 .bf16)
    (x2 : Vec Ideal S1x65536x512 .fp8e4m3) (x3 : Vec Ideal S1x65536 .f32) (x4 : Vec Ideal S1x65536x64 .bf16)
    (h0 : ∀ (h : Fin 16) (k : Fin 512), x0 (ix3 0 h k) = X (ix3 b h k))
    (h1 : ∀ (h : Fin 16) (k : Fin 64), x1 (ix3 0 h k) = Q (ix3 b h k))
    (h2 : ∀ (t : Fin 65536) (k : Fin 512), x2 (ix3 0 t k) = C (ix3 b t k))
    (h3 : ∀ t : Fin 65536, x3 (ix2 0 t) = Z (ix2 b t))
    (h4 : ∀ (t : Fin 65536) (k : Fin 64), x4 (ix3 0 t k) = R (ix3 b t k)) (u : Fin 1) (h : Fin 16) (k : Fin 512) :
    k0_pay2 x2 x3 x0 x1 x4 (ix3 u h k) = attend X Q C Z R (ix3 b h k) := by
  pointwise [k0_pay2]
  simp only [h0, h1, h2, h3, h4]
  rw [ofBits_neg_inf]
  have hs := fun t : Fin 65536 => score_eq X Q C Z R b h t (hz _).1 (hz _).2
  simp only [hs]
  rw [mx_all]
  show Ideal.div _ _ = Ideal.div _ _
  refine congrArg₂ Ideal.div (Eq.trans (Finset.sum_congr rfl fun t _ => ?_) (sm_all _ _))
    (Eq.trans (Finset.sum_congr rfl fun t _ => ?_) (sm_all _ _))
  · show _ = _ * row C Z b k t
    rw [row, tok_val, mul_comm (C _)]
    rfl
  · rw [mul_one]
    rfl

/-- The reference's four blocks are one expression of their loads. -/
theorem pay3_eq : k0_pay3 (F := Ideal) = k0_pay2 (F := Ideal) := rfl
theorem pay4_eq : k0_pay4 (F := Ideal) = k0_pay2 (F := Ideal) := rfl
theorem pay1_eq : k0_pay1 (F := Ideal) = k0_pay2 (F := Ideal) := rfl

/-- The four blocks laid side by side are the softmax average. -/
theorem out_eq (hz : ∀ i, 0 ≤ Z i ∧ Z i ≠ ⊤) : out0_5 X Q C Z R = attend X Q C Z R := by
  funext y
  idx_vars y
  unfold out0_5
  rw [pay1_eq, pay3_eq, pay4_eq]
  canon_tiles x h
  all_goals
    idx_vars x
    obtain rfl : x0 = 0 := Subsingleton.elim _ _
    have e1 : y1 = x1 := Fin.ext h1
    have e2 : y2 = x2 := Fin.ext h2
    subst e1 e2
    refine pay_at X Q C Z R hz y0 _ _ _ _ _ (fun h k => ?_) (fun h k => ?_) (fun t k => ?_) (fun t => ?_) (fun t k => ?_) 0 y1 y2
    · exact congrArg X (funext fun a => Fin.ext ((Rect.idx_unit_val ..).trans
        (match a with | 0 => h0.symm | 1 => Nat.zero_add _ | 2 => Nat.zero_add _)))
    · exact congrArg Q (funext fun a => Fin.ext ((Rect.idx_unit_val ..).trans
        (match a with | 0 => h0.symm | 1 => Nat.zero_add _ | 2 => Nat.zero_add _)))
    · exact congrArg C (funext fun a => Fin.ext ((Rect.idx_unit_val ..).trans
        (match a with | 0 => h0.symm | 1 => Nat.zero_add _ | 2 => Nat.zero_add _)))
    · exact congrArg Z (funext fun a => Fin.ext ((Rect.idx_unit_val ..).trans
        (match a with | 0 => h0.symm | 1 => Nat.zero_add _)))
    · exact congrArg R (funext fun a => Fin.ext ((Rect.idx_unit_val ..).trans
        (match a with | 0 => h0.symm | 1 => Nat.zero_add _ | 2 => Nat.zero_add _)))

end Blocks

section Run

variable (m : (ℓ : Loc nD τ sig) → Buf (Elt Ideal) ℓ) (c : Dev nD)

/-- The queries, by head. -/
def X : Vec Ideal S4x16x512 .bf16 := shapeCast S4x16x512 (m ((c : Thread nD τ).loc main_arg0)) shapeCasts_S4x1x8192_S4x16x512
/-- The rotary part of the queries, by head. -/
def Q : Vec Ideal S4x16x64 .bf16 := shapeCast S4x16x64 (m ((c : Thread nD τ).loc main_arg1)) shapeCasts_S4x1x16x64_S4x16x64
/-- The codes of the latent cache. -/
def C : Vec Ideal S4x65536x512 .fp8e4m3 := m ((c : Thread nD τ).loc main_arg2)
/-- The scales of the latent cache. -/
def Z : Vec Ideal S4x65536 .f32 := m ((c : Thread nD τ).loc main_arg3)
/-- The rotary keys. -/
def R : Vec Ideal S4x65536x64 .bf16 := m ((c : Thread nD τ).loc main_arg4)

/-- Every window is its whole array: each index map is zero at the one point of the grid. -/
theorem idx : ∀ t : Fin cfg0.N, win0_0.index t = ![0, 0, 0] ∧ win0_1.index t = ![0, 0, 0] ∧ win0_2.index t = ![0, 0, 0]
    ∧ win0_3.index t = ![0, 0] ∧ win0_4.index t = ![0, 0, 0] ∧ win0_5.index t = ![0, 0, 0] :=
  (by decide +kernel : ∀ t : Fin grid0.N, _)

/-- The block of the queries is all of them. -/
theorem blk_X (t : Fin cfg0.N) : iblk m c 0 t = X m c := by
  have hv : V m c main_v0 = X m c := by entry_read; rfl
  rw [← hv]
  funext y; idx_vars y
  blk_ext [iblk, idx t]

/-- The block of the rotary queries is all of them. -/
theorem blk_Q (t : Fin cfg0.N) : iblk m c 1 t = Q m c := by
  have hv : V m c main_v1 = Q m c := by entry_read; rfl
  rw [← hv]
  funext y; idx_vars y
  blk_ext [iblk, idx t]

/-- The block of the codes is all of them. -/
theorem blk_C (t : Fin cfg0.N) : iblk m c 2 t = C m c := by
  have hv : V m c main_arg2 = C m c := V_main_arg2 m c
  rw [← hv]
  funext y; idx_vars y
  blk_ext [iblk, idx t]

/-- The block of the scales is all of them. -/
theorem blk_Z (t : Fin cfg0.N) : iblk m c 3 t = Z m c := by
  have hv : V m c main_arg3 = Z m c := V_main_arg3 m c
  rw [← hv]
  funext y; idx_vars y
  blk_ext [iblk, idx t]

/-- The block of the rotary keys is all of them. -/
theorem blk_R (t : Fin cfg0.N) : iblk m c 4 t = R m c := by
  have hv : V m c main_arg4 = R m c := V_main_arg4 m c
  rw [← hv]
  funext y; idx_vars y
  blk_ext [iblk, idx t]

/-- The reference's result array after its run, when every scale is nonnegative and finite. -/
theorem result (hz : ∀ i, 0 ≤ Z m c i ∧ Z m c i ≠ ⊤) :
    (dats m 0 c).arrAt 5 cfg0.N = attend (X m c) (Q m c) (C m c) (Z m c) (R m c) := by
  refine (dats m 0 c).arrAt_eq_of_covers 5 _ (by decide +kernel) fun t hf y => ?_
  idx_vars y
  blk_simp
  rw [after0_5, blk_X, blk_Q, blk_C, blk_Z, blk_R, out_eq _ _ _ _ _ hz]
  refine congrArg _ ?_
  blk_ext [idx t]

end Run

end Cert.ReferenceIdeal.Result

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.KernelIdeal.Value
public import proofs.«01_k».proof.Proof.Gen.ReferenceIdeal.Value
public import proofs.«01_k».proof.Proof.Kernel
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The side condition that the precondition's function takes. -/
instance pre_facts : Cert.Pre_scales_nonnegative.Facts := ⟨by decide⟩

/-- The pattern of `+inf` denotes `⊤`. -/
theorem ofBits_inf : Ideal.ofBits .f32 0x7F800000#32 = (⊤ : EReal) := by
  simp [Ideal.ofBits, Ideal.ieee]

/-- The precondition at an index: the scale there is not negative, and finite. -/
theorem pre_at [Cert.Pre_scales_nonnegative.Facts]
    (m : (ℓ : Loc Cert.KernelIdeal.nD Cert.KernelIdeal.τ Cert.KernelIdeal.sig) → Buf (Elt Ideal) ℓ)
    (h : Cert.Pre_KernelIdeal_scales_nonnegative m) (c : Dev Cert.KernelIdeal.nD) (i : Cert.KernelIdeal.S4x65536.Idx) :
    0 ≤ Cert.KernelIdeal.Result.Z m c i ∧ Cert.KernelIdeal.Result.Z m c i ≠ ⊤ := by
  have hi := congrFun (h c) i
  pointwise [Cert.Pre_scales_nonnegative.fn] at hi
  rw [ofBits_inf] at hi
  change IntOp.andi (BitVec.ofBool (decide (0 ≤ Cert.KernelIdeal.Result.Z m c i)))
    (BitVec.ofBool (decide (Cert.KernelIdeal.Result.Z m c i < ⊤))) = 1#1 at hi
  rw [← lt_top_iff_ne_top]
  revert hi
  by_cases h0 : 0 ≤ Cert.KernelIdeal.Result.Z m c i <;> by_cases h1 : Cert.KernelIdeal.Result.Z m c i < ⊤ <;>
    simp [h0, h1, IntOp.andi]

/-- Over the extended reals, from memories that agree on the arguments, the kernel and the reference end with equal
    results, when every scale is a finite number and not negative. -/
theorem algebraic [Cert.Pre_scales_nonnegative.Facts] :
    Cert.algebraic_KernelIdeal_ReferenceIdeal_pre_scales_nonnegative := by
  intro m g m' g' hpre hagree
  refine ⟨fun c => Cert.Attention.attend (Cert.KernelIdeal.Result.X m c) (Cert.KernelIdeal.Result.Q m c)
    (Cert.KernelIdeal.Result.C m c) (Cert.KernelIdeal.Result.Z m c) (Cert.KernelIdeal.Result.R m c), ?_, ?_⟩
  · exact (θ_run _ _ _).mono (fun r h c => ⟨(h c).1.trans (Cert.KernelIdeal.Result.result m c), (h c).2⟩)
      (Cert.KernelIdeal.Value.run_blocks m g)
  · refine (θ_run _ _ _).mono (fun r h c => ⟨(h c).1.trans ?_, (h c).2⟩) (Cert.ReferenceIdeal.Value.run_blocks m' g')
    have hX : Cert.ReferenceIdeal.Result.X m' c = Cert.KernelIdeal.Result.X m c := by
      unfold Cert.ReferenceIdeal.Result.X; rw [(hagree c).1]; rfl
    have hQ : Cert.ReferenceIdeal.Result.Q m' c = Cert.KernelIdeal.Result.Q m c := by
      unfold Cert.ReferenceIdeal.Result.Q; rw [(hagree c).2.1]; rfl
    have hC : Cert.ReferenceIdeal.Result.C m' c = Cert.KernelIdeal.Result.C m c := (hagree c).2.2.1
    have hZ : Cert.ReferenceIdeal.Result.Z m' c = Cert.KernelIdeal.Result.Z m c := (hagree c).2.2.2.1
    have hR : Cert.ReferenceIdeal.Result.R m' c = Cert.KernelIdeal.Result.R m c := (hagree c).2.2.2.2
    have hz : ∀ i, 0 ≤ Cert.ReferenceIdeal.Result.Z m' c i ∧ Cert.ReferenceIdeal.Result.Z m' c i ≠ ⊤ := by
      rw [hZ]; exact pre_at m hpre c
    rw [Cert.ReferenceIdeal.Result.result m' c hz, hX, hQ, hC, hZ, hR]

/-- The claims of `Defs`, together. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
